-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_segments [hPre_equal_segments : Cert.Pre_equal_segments.Facts] (m : (ℓ : Loc Cert.KernelIdeal.nD Cert.KernelIdeal.τ Cert.KernelIdeal.sig) → Buf (Elt Ideal) ℓ) : Prop :=
  ∀ c : Dev Cert.KernelIdeal.nD,
    (Cert.Pre_equal_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_segments [hPre_equal_segments : Cert.Pre_equal_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_equal_segments [hKernelIdeal : Cert.KernelIdeal.Facts] [hPre_equal_segments : Cert.Pre_equal_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_equal_segments [hReferenceIdeal : Cert.ReferenceIdeal.Facts] [hPre_equal_segments : Cert.Pre_equal_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_equal_segments [hKernelIdeal : Cert.KernelIdeal.Facts] [hReferenceIdeal : Cert.ReferenceIdeal.Facts] [hPre_equal_segments : Cert.Pre_equal_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_equal_segments : Cert.Pre_equal_segments.Facts),
    quiescent_Kernel (hKernel := hKernel)
    ∧ quiescent_KernelIdeal (hKernelIdeal := hKernelIdeal)
    ∧ quiescent_KernelIdeal_pre_equal_segments (hKernelIdeal := hKernelIdeal) (hPre_equal_segments := hPre_equal_segments)
    ∧ quiescent_ReferenceIdeal (hReferenceIdeal := hReferenceIdeal)
    ∧ quiescent_ReferenceIdeal_pre_equal_segments (hReferenceIdeal := hReferenceIdeal) (hPre_equal_segments := hPre_equal_segments)
    ∧ preserves_Kernel_KernelIdeal
    ∧ algebraic_KernelIdeal_ReferenceIdeal_pre_equal_segments (hKernelIdeal := hKernelIdeal) (hReferenceIdeal := hReferenceIdeal) (hPre_equal_segments := hPre_equal_segments)
-- ==== Pre_equal_segments.lean ====
abbrev S32768x3 : Shape := ⟨2, ![32768, 3]⟩
abbrev S32768x128 : Shape := ⟨2, ![32768, 128]⟩
abbrev S16 : Shape := ⟨1, ![16]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x128 : S_.BroadcastsInDim S32768x128 (![] : Fin 0 → Fin S32768x128.rank)
  reducesTo_S32768x128_S_d0_1 : S32768x128.ReducesTo [0, 1] S_
  slices_S128x256_S128x128_0_0 : S128x256.Slices ![0, 0] S128x128
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg8 : FVec F S128 .f32) (main_v11 : IVec S_ 1) (main_v16 : IVec S_ 1) : IVec S_ 1 :=
  let main_v17 : IVec S_ 1 := andi main_v11 main_v16
  let main_v18 : FVec F S128 .f32 := Host.absf main_arg5
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_c_6 : IVec S_ 1 := constantI S_ 1 1#1
  let main_v21 : IVec S_ 1 := (fun x v => Host.reduce IntOp.andi x v reducesTo_S128_S_d0 h_S_) main_v20 main_c_6
  let main_v22 : IVec S_ 1 := andi main_v17 main_v21
  let main_cst_7 : FVec F S_ .f32 := constant S_ .f32 0x3727C5AC#32
  let main_v23 : FVec F S128 .f32 := broadcastInDim S128 ![] bcast_S_S128 main_cst_7
  let main_v24 : FVec F S128 .f32 := addf main_arg8 main_v23
  let main_cst_8 : FVec F S_ .f32 := constant S_ .f32 0x00000000#32
  let main_v25 : FVec F S128 .f32 := broadcastInDim S128 ![] bcast_S_S128 main_cst_8
  let main_v26 : IVec S128 1 := cmpf .ogt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v22 main_v27
  main_v28

def fn {F : FTy → Type} [FloatOps F] (main_arg0 : FVec F S32768x3 .f32) (main_arg1 : FVec F S32768x128 .f32) (main_arg2 : IVec S16 32) (main_arg3 : FVec F S128x256 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) : IVec S_ 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 2048#32
  let main_v3 : IVec S16 32 := broadcastInDim S16 ![] bcast_S_S16 main_c_0
  let main_v4 : IVec S16 32 := muli main_v2 main_v3
  let main_v5 : IVec S16 1 := cmpi .eq main_arg2 main_v4
  let main_c_1 : IVec S_ 1 := constantI S_ 1 1#1
  let main_v6 : IVec S_ 1 := (fun x v => Host.reduce IntOp.andi x v reducesTo_S16_S_d0 h_S_) main_v5 main_c_1
  let main_v7 : FVec F S32768x128 .f32 := Host.absf main_arg1
  let main_cst : FVec F S_ .f32 := constant S_ .f32 0x7F800000#32
  let main_v8 : FVec F S32768x128 .f32 := broadcastInDim S32768x128 ![] bcast_S_S32768x128 main_cst
  let main_v9 : IVec S32768x128 1 := cmpf .olt main_v7 main_v8
  let main_c_2 : IVec S_ 1 := constantI S_ 1 1#1
  let main_v10 : IVec S_ 1 := (fun x v => Host.reduce IntOp.andi x v reducesTo_S32768x128_S_d0_1 h_S_) main_v9 main_c_2
  let main_v11 : IVec S_ 1 := andi main_v6 main_v10
  let main_v12 : FVec F S128x128 .f32 := (extractStridedSlice S128x128 ![0, 0] · slices_S128x256_S128x128_0_0) main_arg3
  let main_v13 : FVec F S128x128 .f32 := Host.absf main_v12
  let main_cst_3 : FVec F S_ .f32 := constant S_ .f32 0x7F800000#32
  let main_v14 : FVec F S128x128 .f32 := broadcastInDim S128x128 ![] bcast_S_S128x128 main_cst_3
  let main_v15 : IVec S128x128 1 := cmpf .olt main_v13 main_v14
  let main_c_4 : IVec S_ 1 := constantI S_ 1 1#1
  let main_v16 : IVec S_ 1 := (fun x v => Host.reduce IntOp.andi x v reducesTo_S128x128_S_d0_1 h_S_) main_v15 main_c_4
  fn_part1 (F := F) main_arg5 main_arg8 main_v11 main_v16
-- ==== Kernel.lean ====
abbrev S32768x3 : Shape := ⟨2, ![32768, 3]⟩
abbrev S32768x128 : Shape := ⟨2, ![32768, 128]⟩
abbrev S16 : Shape := ⟨1, ![16]⟩
abbrev S128x256 : Shape := ⟨2, ![128, 256]⟩
abbrev S128 : Shape := ⟨1, ![128]⟩
abbrev S128x128 : Shape := ⟨2, ![128, 128]⟩
abbrev S256x128 : Shape := ⟨2, ![256, 128]⟩
abbrev S_ : Shape := ⟨0, ![]⟩
abbrev S1x128 : Shape := ⟨2, ![1, 128]⟩
abbrev S8x128 : Shape := ⟨2, ![8, 128]⟩
abbrev S16384x128 : Shape := ⟨2, ![16384, 128]⟩
abbrev S2048x128 : Shape := ⟨2, ![2048, 128]⟩
abbrev S1024x128 : Shape := ⟨2, ![1024, 128]⟩
abbrev S512x128 : Shape := ⟨2, ![512, 128]⟩
abbrev S64x128 : Shape := ⟨2, ![64, 128]⟩
abbrev S32x128 : Shape := ⟨2, ![32, 128]⟩
abbrev S16x128 : Shape := ⟨2, ![16, 128]⟩

abbrev nBuf : Space → Nat
  | .hbm => 36
  | .vmem => 8
  | .smem => 0
  | _ => 0

abbrev bufTy : (tb : Table) → Fin (tcTables nBuf tb) → BufTy
  | .hbm, ⟨0, _⟩ => ⟨S32768x3, .f32⟩
  | .hbm, ⟨1, _⟩ => ⟨S32768x128, .f32⟩
  | .hbm, ⟨2, _⟩ => ⟨S16, .i32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S1x128, .f32⟩
  | .hbm, ⟨19, _⟩ => ⟨S128x128, .f32⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S8x128, .f32⟩
  | .hbm, ⟨35, _⟩ => ⟨S32768x128, .f32⟩
  | .local _ .vmem, ⟨0, _⟩ => ⟨S16384x128, .f32⟩
  | .local _ .vmem, ⟨1, _⟩ => ⟨S16384x128, .f32⟩
  | .local _ .vmem, ⟨2, _⟩ => ⟨S128x128, .bf16⟩
  | .local _ .vmem, ⟨3, _⟩ => ⟨S128x128, .f32⟩
  | .local _ .vmem, ⟨4, _⟩ => ⟨S128x128, .f32⟩
  | .local _ .vmem, ⟨5, _⟩ => ⟨S8x128, .f32⟩
  | .local _ .vmem, ⟨6, _⟩ => ⟨S16384x128, .f32⟩
  | .local _ .vmem, ⟨7, _⟩ => ⟨S16384x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x3 : Shape := ⟨2, ![32768, 3]⟩
abbrev S32768x128 : Shape := ⟨2, ![32768, 128]⟩
abbrev S16 : Shape := ⟨1, ![16]⟩
abbrev S128x256 : Shape := ⟨2, ![128, 256]⟩
abbrev S128 : Shape := ⟨1, ![128]⟩
abbrev S128x128 : Shape := ⟨2, ![128, 128]⟩
abbrev S_ : Shape := ⟨0, ![]⟩
abbrev S1 : Shape := ⟨1, ![1]⟩
abbrev S15 : Shape := ⟨1, ![15]⟩
abbrev S32768 : Shape := ⟨1, ![32768]⟩
abbrev S1x16 : Shape := ⟨2, ![1, 16]⟩
abbrev S32768x1 : Shape := ⟨2, ![32768, 1]⟩
abbrev S32768x16 : Shape := ⟨2, ![32768, 16]⟩
abbrev S16x128 : Shape := ⟨2, ![16, 128]⟩
abbrev S16x1 : Shape := ⟨2, ![16, 1]⟩
abbrev S1x128 : Shape := ⟨2, ![1, 128]⟩
abbrev S1x1 : Shape := ⟨2, ![1, 1]⟩
abbrev S32768x256 : Shape := ⟨2, ![32768, 256]⟩
abbrev S256x128 : Shape := ⟨2, ![256, 128]⟩

abbrev nBuf : Space → Nat
  | .hbm => 89
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x128, .f32⟩
  | .hbm, ⟨2, _⟩ => ⟨S16, .i32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1, .i32⟩
  | .hbm, ⟨13, _⟩ => ⟨S15, .i32⟩
  | .hbm, ⟨14, _⟩ => ⟨S16, .i32⟩
  | .hbm, ⟨15, _⟩ => ⟨S16, .i32⟩
  | .hbm, ⟨16, _⟩ => ⟨S16, .f32⟩
  | .hbm, ⟨17, _⟩ => ⟨S32768, .i32⟩
  | .hbm, ⟨18, _⟩ => ⟨S1x16, .i32⟩
  | .hbm, ⟨19, _⟩ => ⟨S32768x1, .i32⟩
  | .hbm, ⟨20, _⟩ => ⟨S32768x16, .i32⟩
  | .hbm, ⟨21, _⟩ => ⟨S32768x16, .i32⟩
  | .hbm, ⟨22, _⟩ => ⟨S32768x16, .i1⟩
  | .hbm, ⟨23, _⟩ => ⟨S32768x16, .i32⟩
  | .hbm, ⟨24, _⟩ => ⟨S_, .i32⟩
  | .hbm, ⟨25, _⟩ => ⟨S32768, .i32⟩
  | .hbm, ⟨26, _⟩ => ⟨S_, .f32⟩
  | .hbm, ⟨27, _⟩ => ⟨S16x128, .f32⟩
  | .hbm, ⟨28, _⟩ => ⟨S32768x1, .i32⟩
  | .hbm, ⟨29, _⟩ => ⟨S16x128, .f32⟩
  | .hbm, ⟨30, _⟩ => ⟨S16x1, .f32⟩
  | .hbm, ⟨31, _⟩ => ⟨S16x128, .f32⟩
  | .hbm, ⟨32, _⟩ => ⟨S16x128, .f32⟩
  | .hbm, ⟨33, _⟩ => ⟨S128x128, .f32⟩
  | .hbm, ⟨34, _⟩ => ⟨S16x128, .f32⟩
  | .hbm, ⟨35, _⟩ => ⟨S1x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S1, .i32⟩
  | .hbm, ⟨50, _⟩ => ⟨S_, .i32⟩
  | .hbm, ⟨51, _⟩ => ⟨S32768x1, .i32⟩
  | .hbm, ⟨52, _⟩ => ⟨S32768x1, .i1⟩
  | .hbm, ⟨53, _⟩ => ⟨S1x1, .i32⟩
  | .hbm, ⟨54, _⟩ => ⟨S32768x1, .i32⟩
  | .hbm, ⟨55, _⟩ => ⟨S32768x1, .i1⟩
  | .hbm, ⟨56, _⟩ => ⟨S32768x1, .i1⟩
  | .hbm, ⟨57, _⟩ => ⟨S_, .i1⟩
  | .hbm, ⟨58, _⟩ => ⟨S32768, .i1⟩
  | .hbm, ⟨59, _⟩ => ⟨S32768x128, .f32⟩
  | .hbm, ⟨60, _⟩ => ⟨S32768x128, .i1⟩
  | .hbm, ⟨61, _⟩ => ⟨S_, .f32⟩
  | .hbm, ⟨62, _⟩ => ⟨S32768x128, .f32⟩
  | .hbm, ⟨63, _⟩ => ⟨S32768x128, .f32⟩
  | .hbm, ⟨64, _⟩ => ⟨S32768x256, .f32⟩
  | .hbm, ⟨65, _⟩ => ⟨S256x128, .f32⟩
  | .hbm, ⟨66, _⟩ => ⟨S32768x128, .f32⟩
  | .hbm, ⟨67, _⟩ => ⟨S1x128, .f32⟩
  | .hbm, ⟨68, _⟩ => ⟨S32768x128, .f32⟩
  | .hbm, ⟨69, _⟩ => ⟨S32768x128, .f32⟩
  | .hbm, ⟨70, _⟩ => ⟨S1x128, .f32⟩
  | .hbm, ⟨71, _⟩ => ⟨S32768x128, .f32⟩
  | .hbm, ⟨72, _⟩ => ⟨S32768x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S32768x128, .f32⟩
  | .hbm, ⟨79, _⟩ => ⟨S32768x128, .f32⟩
  | .hbm, ⟨80, _⟩ => ⟨S1x128, .f32⟩
  | .hbm, ⟨81, _⟩ => ⟨S32768x128, .f32⟩
  | .hbm, ⟨82, _⟩ => ⟨S32768x128, .f32⟩
  | .hbm, ⟨83, _⟩ => ⟨S1x128, .f32⟩
  | .hbm, ⟨84, _⟩ => ⟨S32768x128, .f32⟩
  | .hbm, ⟨85, _⟩ => ⟨S32768x128, .f32⟩
  | .hbm, ⟨86, _⟩ => ⟨S_, .f32⟩
  | .hbm, ⟨87, _⟩ => ⟨S32768x128, .f32⟩
  | .hbm, ⟨88, _⟩ => ⟨S32768x128, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_1 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_call2_cst : Ref sig .tc := ⟨.hbm, 86, rfl⟩
abbrev main_call2_v0 : Ref sig .tc := ⟨.hbm, 87, rfl⟩
abbrev main_v47 : Ref sig .tc := ⟨.hbm, 88, rfl⟩

abbrev nD : Nat := 1
abbrev τ : Topo := Topo.v7x

variable {F : FTy → Type} [FloatOps F]
-- ==== Proof.TreeSum.lean ====
/-
  Hand-written: the sum of a segment's 2048 rows as the kernel takes it, by halving. Eight times the lower half of the
  rows is added to the upper half, and the eight rows left are summed; over the extended reals that is the sum of the
  2048 rows.
-/
module

public import proofs.«01_k».proof.Proof.Gen.KernelIdeal.Frame
public import Idealize.ShloMosaic.Lib.Pointwise

@[expose] public section

set_option maxRecDepth 16384

noncomputable section

namespace Cert.KernelIdeal.Tree

open Idealize.ShloMosaic Cert.KernelIdeal Cert.KernelIdeal.Gen

variable {F : FTy → Type} [FloatOps F]

/-- One halving step: rows `0 … m-1` plus rows `m … 2m-1`. -/
def half (n m : Nat) (h0 : (⟨2, ![n, 128]⟩ : Shape).Slices ![0, 0] ⟨2, ![m, 128]⟩)
    (h1 : (⟨2, ![n, 128]⟩ : Shape).Slices ![m, 0] ⟨2, ![m, 128]⟩) (x : FVec F ⟨2, ![n, 128]⟩ .f32) :
    FVec F ⟨2, ![m, 128]⟩ .f32 :=
  addf (extractStridedSlice ⟨2, ![m, 128]⟩ ![0, 0] x h0) (extractStridedSlice ⟨2, ![m, 128]⟩ ![m, 0] x h1)

/-- The last step: the sum of the eight rows left, as one row. -/
def last8 (x : FVec F S8x128 .f32) : FVec F S1x128 .f32 :=
  shapeCast S1x128 (multiReduction .add [0] S128 x 0x00000000#32 reduces_S8x128_S128 (.inl rfl) rfl) shapeCasts_S128_S1x128

/-- The sum of 2048 rows by halving, as the kernel writes it. -/
def tree (x : FVec F S2048x128 .f32) : FVec F S1x128 .f32 :=
  last8 (half 16 8 slices_S16x128_o0_0_S8x128 slices_S16x128_o8_0_S8x128
    (half 32 16 slices_S32x128_o0_0_S16x128 slices_S32x128_o16_0_S16x128
    (half 64 32 slices_S64x128_o0_0_S32x128 slices_S64x128_o32_0_S32x128
    (half 128 64 slices_S128x128_o0_0_S64x128 slices_S128x128_o64_0_S64x128
    (half 256 128 slices_S256x128_o0_0_S128x128 slices_S256x128_o128_0_S128x128
    (half 512 256 slices_S512x128_o0_0_S256x128 slices_S512x128_o256_0_S256x128
    (half 1024 512 slices_S1024x128_o0_0_S512x128 slices_S1024x128_o512_0_S512x128
    (half 2048 1024 slices_S2048x128_o0_0_S1024x128 slices_S2048x128_o1024_0_S1024x128 x))))))))

/-- A halving step read at an index. -/
theorem half_apply (n m : Nat) (h0 h1) (x : FVec Ideal ⟨2, ![n, 128]⟩ .f32) (hn : n = m + m) (r : Fin m) (j : Fin 128) :
    half n m h0 h1 x (ix2 r j) = x (ix2 ⟨r.val, by omega⟩ j) + x (ix2 ⟨m + r.val, by omega⟩ j) := by
  unfold half extractStridedSlice addf
  refine congrArg₂ (fun a b : EReal => a + b) (congrArg x ?_) (congrArg x ?_) <;>
    funext a <;> apply Fin.ext <;> fin_cases a <;> simp [ix2]

/-- A halving step keeps each column's sum. -/
theorem half_sum (n m : Nat) (h0 h1) (x : FVec Ideal ⟨2, ![n, 128]⟩ .f32) (hn : n = m + m) (j : Fin 128) :
    (∑ r : Fin m, half n m h0 h1 x (ix2 r j)) = ∑ r : Fin n, x (ix2 r j) := by
  subst hn
  rw [Fin.sum_univ_add, ← Finset.sum_add_distrib]
  exact Finset.sum_congr rfl fun r _ => half_apply _ _ h0 h1 x rfl r j

/-- The last step read at an index: the sum of the eight rows. -/
theorem last8_apply (x : FVec Ideal S8x128 .f32) (j : Fin 128) :
    last8 x (ix2 (0 : Fin 1) j) = ∑ r : Fin 8, x (ix2 r j) := by
  unfold last8
  pointwise

/-- The tree sum is the sum of the 2048 rows. -/
theorem tree_apply (x : FVec Ideal S2048x128 .f32) (j : Fin 128) :
    tree x (ix2 (0 : Fin 1) j) = ∑ r : Fin 2048, x (ix2 r j) := by
  unfold tree
  rw [last8_apply, half_sum 16 8 _ _ _ rfl, half_sum 32 16 _ _ _ rfl, half_sum 64 32 _ _ _ rfl, half_sum 128 64 _ _ _ rfl,
    half_sum 256 128 _ _ _ rfl, half_sum 512 256 _ _ _ rfl, half_sum 1024 512 _ _ _ rfl, half_sum 2048 1024 _ _ _ rfl]

end Cert.KernelIdeal.Tree
-- ==== Proof.Block.lean ====
/-
  Hand-written: what the kernel body leaves in its output block, read at an index. The body computes for its eight
  segments one row of offsets each (`offs`), and writes the block as eight tiles of 2048 rows (`tile`).
-/
module

public import proofs.«01_k».proof.Proof.TreeSum
public import Idealize.ShloMosaic.Lib.Pipeline.Value
public import Idealize.ShloMosaic.Lib.Pipeline.ValueKit

@[expose] public section

set_option maxRecDepth 16384

noncomputable section

namespace Cert.KernelIdeal.Block

open Idealize.ShloMosaic Cert.KernelIdeal Cert.KernelIdeal.Gen Cert.KernelIdeal.Tree

variable {F : FTy → Type} [FloatOps F]

/-- The row sums of the block's eight segments, stacked. -/
def sums (x0 : FVec F S16384x128 .f32) : FVec F S8x128 .f32 :=
  concatenate S8x128 0
    [⟨S1x128, tree (extractStridedSlice S2048x128 ![0, 0] x0 slices_S16384x128_o0_0_S2048x128)⟩,
     ⟨S1x128, tree (extractStridedSlice S2048x128 ![2048, 0] x0 slices_S16384x128_o2048_0_S2048x128)⟩,
     ⟨S1x128, tree (extractStridedSlice S2048x128 ![4096, 0] x0 slices_S16384x128_o4096_0_S2048x128)⟩,
     ⟨S1x128, tree (extractStridedSlice S2048x128 ![6144, 0] x0 slices_S16384x128_o6144_0_S2048x128)⟩,
     ⟨S1x128, tree (extractStridedSlice S2048x128 ![8192, 0] x0 slices_S16384x128_o8192_0_S2048x128)⟩,
     ⟨S1x128, tree (extractStridedSlice S2048x128 ![10240, 0] x0 slices_S16384x128_o10240_0_S2048x128)⟩,
     ⟨S1x128, tree (extractStridedSlice S2048x128 ![12288, 0] x0 slices_S16384x128_o12288_0_S2048x128)⟩,
     ⟨S1x128, tree (extractStridedSlice S2048x128 ![14336, 0] x0 slices_S16384x128_o14336_0_S2048x128)⟩]
    concatenates_S1x128_S1x128_S1x128_S1x128_S1x128_S1x128_S1x128_S1x128_S8x128_d0

/-- The eight rows of offsets, from the eight rows of sums `s`, the two weight blocks and the five parameter rows. -/
def offs (s : FVec F S8x128 .f32) (w1b w2t : FVec F S128x128 .f32) (b1 beta rm b2 sc : FVec F S1x128 .f32) :
    FVec F S8x128 .f32 :=
  addf (mulf (subf (addf (matmul dot_S8x128_S128x128_S8x128_1_0_0_1_n_n none
      (maximumf (addf (matmul dot_S8x128_S128x128_S8x128_1_0_0_1_n_n none
        (mulf s (broadcast S8x128 (Scalar.ofBits .f32 0x3A000000#32))) w2t
        (constant S8x128 .f32 0x00000000#32)) (broadcastTo S8x128 b2 broadcasts_S1x128_S8x128))
        (broadcast S8x128 (Scalar.ofBits .f32 0x00000000#32)))
      w1b (constant S8x128 .f32 0x00000000#32)) (broadcastTo S8x128 b1 broadcasts_S1x128_S8x128))
      (broadcastTo S8x128 rm broadcasts_S1x128_S8x128)) (broadcastTo S8x128 sc broadcasts_S1x128_S8x128))
    (broadcastTo S8x128 beta broadcasts_S1x128_S8x128)

/-- One tile of the output block: rows `o …` of the input block times the folded weights, plus row `g` of the offsets,
    clamped below at zero. -/
def tile (o g : Nat) (ho : S16384x128.Slices ![o, 0] S2048x128) (hg : S8x128.Slices ![g, 0] S1x128)
    (x0 : FVec F S16384x128 .f32) (w : FVec F S128x128 .bf16) (of : FVec F S8x128 .f32) : FVec F S2048x128 .f32 :=
  maximumf (addf (matmul dot_S2048x128_S128x128_S2048x128_1_0_0_1_n_n none
      (truncf .bf16 (extractStridedSlice S2048x128 ![o, 0] x0 ho) bitsLt_bf16_f32) w
      (constant S2048x128 .f32 0x00000000#32))
    (broadcastTo S2048x128 (extractStridedSlice S1x128 ![g, 0] of hg) broadcasts_S1x128_S2048x128))
    (broadcast S2048x128 (Scalar.ofBits .f32 0x00000000#32))

/-- The body's offsets are `offs` of its loads. -/
theorem pay49_eq (x0 : Vec F S16384x128 .f32) (x1 : Vec F S128x128 .bf16) (x2 x3 : Vec F S128x128 .f32) (x4 : Vec F S8x128 .f32) :
    k0_pay49 x0 x1 x2 x3 x4 = offs (sums (View.ld x0 r0_0)) (View.ld x2 r0_6) (View.ld x3 r0_6)
      (View.ld x4 r0_1) (View.ld x4 r0_2) (View.ld x4 r0_3) (View.ld x4 r0_4) (View.ld x4 r0_5) := by
  unfold k0_pay49 k0_pay35 k0_pay36 k0_pay37 k0_pay38 k0_pay39 k0_pay24 k0_pay4 k0_pay5 k0_pay6 k0_pay7 k0_pay8
  simp only [shapeCast_self]
  rfl

/-- The body's output block is the canon of its eight tiles. -/
theorem out_eq (x0 : Vec F S16384x128 .f32) (x1 : Vec F S128x128 .bf16) (x2 x3 : Vec F S128x128 .f32) (x4 : Vec F S8x128 .f32) :
    out0_5 x0 x1 x2 x3 x4 = View.canon
      [⟨r0_14, tile 14336 7 slices_S16384x128_o14336_0_S2048x128 slices_S8x128_o7_0_S1x128 (View.ld x0 r0_0) (View.ld x1 r0_6) (k0_pay49 x0 x1 x2 x3 x4)⟩,
       ⟨r0_13, tile 12288 6 slices_S16384x128_o12288_0_S2048x128 slices_S8x128_o6_0_S1x128 (View.ld x0 r0_0) (View.ld x1 r0_6) (k0_pay49 x0 x1 x2 x3 x4)⟩,
       ⟨r0_12, tile 10240 5 slices_S16384x128_o10240_0_S2048x128 slices_S8x128_o5_0_S1x128 (View.ld x0 r0_0) (View.ld x1 r0_6) (k0_pay49 x0 x1 x2 x3 x4)⟩,
       ⟨r0_11, tile 8192 4 slices_S16384x128_o8192_0_S2048x128 slices_S8x128_o4_0_S1x128 (View.ld x0 r0_0) (View.ld x1 r0_6) (k0_pay49 x0 x1 x2 x3 x4)⟩,
       ⟨r0_10, tile 6144 3 slices_S16384x128_o6144_0_S2048x128 slices_S8x128_o3_0_S1x128 (View.ld x0 r0_0) (View.ld x1 r0_6) (k0_pay49 x0 x1 x2 x3 x4)⟩,
       ⟨r0_9, tile 4096 2 slices_S16384x128_o4096_0_S2048x128 slices_S8x128_o2_0_S1x128 (View.ld x0 r0_0) (View.ld x1 r0_6) (k0_pay49 x0 x1 x2 x3 x4)⟩,
       ⟨r0_8, tile 2048 1 slices_S16384x128_o2048_0_S2048x128 slices_S8x128_o1_0_S1x128 (View.ld x0 r0_0) (View.ld x1 r0_6) (k0_pay49 x0 x1 x2 x3 x4)⟩,
       ⟨r0_7, tile 0 0 slices_S16384x128_o0_0_S2048x128 slices_S8x128_o0_0_S1x128 (View.ld x0 r0_0) (View.ld x1 r0_6) (k0_pay49 x0 x1 x2 x3 x4)⟩] := by
  have hw : k0_pay50 x0 x1 x2 x3 x4 = View.ld x1 r0_6 := by unfold k0_pay50 k0_pay25; exact shapeCast_self _ _
  have hw' : k0_pay25 (View.ld x1 r0_6) = View.ld x1 r0_6 := by unfold k0_pay25; exact shapeCast_self _ _
  unfold out0_5
  rw [hw]
  unfold k0_pay29 k0_pay27 k0_pay26
  rw [hw']
  rfl

/-- The stacked sums read at an index: the sum of the 2048 rows of segment `g`. -/
theorem sums_apply (x0 : FVec Ideal S16384x128 .f32) (g : Fin 8) (j : Fin 128) :
    sums x0 (ix2 g j) = ∑ r : Fin 2048, x0 (ix2 ⟨2048 * g.val + r.val, by omega⟩ j) := by
  have key : ∀ (o : Nat) (ho : S16384x128.Slices ![o, 0] S2048x128) (hg : o = 2048 * g.val),
      tree (extractStridedSlice S2048x128 ![o, 0] x0 ho) (ix2 (0 : Fin 1) j)
        = ∑ r : Fin 2048, x0 (ix2 ⟨2048 * g.val + r.val, by omega⟩ j) := by
    intro o ho hg
    subst hg
    rw [tree_apply]
    refine Finset.sum_congr rfl fun r _ => ?_
    unfold extractStridedSlice
    refine congrArg x0 (funext fun a => Fin.ext ?_)
    fin_cases a <;> simp [ix2]
  unfold sums
  concat_tiles i h
  all_goals
    obtain rfl : i = ix2 (0 : Fin 1) j := by
      funext a; apply Fin.ext; fin_cases a
      · exact h0
      · exact h1
    exact key _ _ (by simp at h; omega)

/-- A tile read at an index. -/
theorem tile_apply (o g : Nat) (ho : S16384x128.Slices ![o, 0] S2048x128) (hg : S8x128.Slices ![g, 0] S1x128)
    (x0 : FVec Ideal S16384x128 .f32) (w : FVec Ideal S128x128 .bf16) (of : FVec Ideal S8x128 .f32)
    (r : Fin 2048) (j : Fin 128) (g' : Fin 8) (hg' : g'.val = g) (ho' : o + 2048 ≤ 16384) :
    tile o g ho hg x0 w of (ix2 r j)
      = max ((∑ k : Fin 128, x0 (ix2 ⟨o + r.val, by omega⟩ k) * w (ix2 k j)) + of (ix2 g' j)) 0 := by
  have e1 : ∀ k : Fin 128, extractStridedSlice S2048x128 ![o, 0] x0 ho (ix2 r k) = x0 (ix2 ⟨o + r.val, by omega⟩ k) := by
    intro k
    unfold extractStridedSlice
    refine congrArg x0 (funext fun a => Fin.ext ?_)
    fin_cases a <;> simp [ix2]
  have e2 : extractStridedSlice S1x128 ![g, 0] of hg (ix2 (0 : Fin 1) j) = of (ix2 g' j) := by
    unfold extractStridedSlice
    refine congrArg of (funext fun a => Fin.ext ?_)
    fin_cases a <;> simp [ix2, hg']
  unfold tile
  generalize extractStridedSlice S2048x128 ![o, 0] x0 ho = X at e1 ⊢
  generalize extractStridedSlice S1x128 ![g, 0] of hg = R at e2 ⊢
  pointwise
  simp only [e1, e2]

/-- The offsets read at an index. -/
theorem offs_apply (s : FVec Ideal S8x128 .f32) (w1b w2t : FVec Ideal S128x128 .f32)
    (b1 beta rm b2 sc : FVec Ideal S1x128 .f32) (g : Fin 8) (j : Fin 128) :
    offs s w1b w2t b1 beta rm b2 sc (ix2 g j)
      = ((∑ k : Fin 128, max ((∑ l : Fin 128, s (ix2 g l) * Ideal.ofBits .f32 0x3A000000#32 * w2t (ix2 l k)) + b2 (ix2 (0 : Fin 1) k)) 0
            * w1b (ix2 k j)) + b1 (ix2 (0 : Fin 1) j) - rm (ix2 (0 : Fin 1) j)) * sc (ix2 (0 : Fin 1) j) + beta (ix2 (0 : Fin 1) j) := by
  unfold offs
  pointwise

/-- The output block as a function of its index, from the input block `x0`, the folded weights `w` and the offsets. -/
def blockFn (x0 : FVec Ideal S16384x128 .f32) (w : FVec Ideal S128x128 .bf16) (of : FVec Ideal S8x128 .f32)
    (y : S16384x128.Idx) : EReal :=
  max ((∑ k : Fin 128, x0 (ix2 (y 0) k) * w (ix2 k (y 1)))
    + of (ix2 (⟨(y 0).val / 2048, by have : (y 0).val < 16384 := (y 0).isLt; omega⟩ : Fin 8) (y 1))) 0

/-- Each tile is the part of `blockFn` its store's rectangle names. -/
theorem tile_piece (o g : Nat) (ho : S16384x128.Slices ![o, 0] S2048x128) (hg : S8x128.Slices ![g, 0] S1x128)
    (inb : ∀ a, (![o, 0] : Fin 2 → Nat) a + S2048x128.size a ≤ S16384x128.size a)
    (x0 : FVec Ideal S16384x128 .f32) (w : FVec Ideal S128x128 .bf16) (of : FVec Ideal S8x128 .f32)
    (hog : o = 2048 * g) (hg8 : g < 8) (x : S2048x128.Idx) :
    tile o g ho hg x0 w of x
      = blockFn x0 w of ((Rect.unit (s := S16384x128) ![o, 0] S2048x128.size inb).emb x) := by
  obtain ⟨r, j, rfl⟩ : ∃ (r : Fin 2048) (j : Fin 128), x = ix2 r j := ⟨x 0, x 1, eq_ix2 x⟩
  have hy : (Rect.unit (s := S16384x128) ![o, 0] S2048x128.size inb).emb (ix2 r j)
      = ix2 (⟨o + r.val, by omega⟩ : Fin 16384) j := by
    funext a
    apply Fin.ext
    rw [show (Rect.unit (s := S16384x128) ![o, 0] S2048x128.size inb).emb (ix2 r j) a = (Rect.unit (s := S16384x128) ![o, 0] S2048x128.size inb).idx (ix2 r j) a from rfl, Rect.idx_unit_val]
    fin_cases a <;> simp [ix2]
  rw [hy, tile_apply o g ho hg x0 w of r j ⟨g, hg8⟩ rfl (by omega)]
  unfold blockFn
  have hq : (o + r.val) / 2048 = g := by omega
  simp [ix2, hq]

/-- The output block is `blockFn` of the loads. -/
theorem out_apply (x0 : Vec Ideal S16384x128 .f32) (x1 : Vec Ideal S128x128 .bf16) (x2 x3 : Vec Ideal S128x128 .f32)
    (x4 : Vec Ideal S8x128 .f32) (y : S16384x128.Idx) :
    out0_5 (F := Ideal) x0 x1 x2 x3 x4 y = blockFn x0 x1 (k0_pay49 (F := Ideal) x0 x1 x2 x3 x4) y := by
  have hz : (![0, 0] : Fin 2 → Nat) = fun _ => 0 := funext fun a => by fin_cases a <;> rfl
  rw [out_eq, View.ld_unit_zero (S := S16384x128) hz, View.ld_unit_zero (S := S128x128) hz]
  refine View.canon_apply_of_pieces (Val := Elt Ideal) (e := .f32) (blockFn x0 x1 (k0_pay49 (F := Ideal) x0 x1 x2 x3 x4)) _ ?_ y (cover0_5 _ _ _ _ _ _ _ _ y)
  intro p hp
  simp only [List.mem_cons, List.not_mem_nil, or_false] at hp
  rcases hp with rfl | rfl | rfl | rfl | rfl | rfl | rfl | rfl <;>
    exact fun x => tile_piece _ _ _ _ (by decide) x0 x1 _ (by norm_num) (by norm_num) x

end Cert.KernelIdeal.Block
-- ==== Proof.Host.lean ====
/-
  Hand-written: the arrays the host code before the kernel region prepares, read at an index.
-/
module

public import proofs.«01_k».proof.Proof.Block
public import proofs.«01_k».proof.Proof.Gen.KernelIdeal.Value
public import Idealize.ShloMosaic.Lib.StableHlo.ReadAt

@[expose] public section

set_option maxRecDepth 16384

noncomputable section

namespace Cert.KernelIdeal.Host

open Idealize.ShloMosaic Idealize.ShloMosaic.TcCoe Cert.KernelIdeal Cert.KernelIdeal.Gen

variable (m : (ℓ : Loc nD τ sig) → Buf (Elt Ideal) ℓ)

/-- The argument arrays of device `c`, at their shapes. -/
abbrev aX (c : Dev nD) : FVec Ideal S32768x128 .f32 := m ((c : Thread nD τ).loc main_arg1)
abbrev aW1 (c : Dev nD) : FVec Ideal S128x256 .f32 := m ((c : Thread nD τ).loc main_arg3)
abbrev aB1 (c : Dev nD) : FVec Ideal S128 .f32 := m ((c : Thread nD τ).loc main_arg4)
abbrev aGamma (c : Dev nD) : FVec Ideal S128 .f32 := m ((c : Thread nD τ).loc main_arg5)
abbrev aBeta (c : Dev nD) : FVec Ideal S128 .f32 := m ((c : Thread nD τ).loc main_arg6)
abbrev aMean (c : Dev nD) : FVec Ideal S128 .f32 := m ((c : Thread nD τ).loc main_arg7)
abbrev aVar (c : Dev nD) : FVec Ideal S128 .f32 := m ((c : Thread nD τ).loc main_arg8)
abbrev aW2 (c : Dev nD) : FVec Ideal S128x128 .f32 := m ((c : Thread nD τ).loc main_arg9)
abbrev aB2 (c : Dev nD) : FVec Ideal S128 .f32 := m ((c : Thread nD τ).loc main_arg10)

/-- The scale of channel `j`: `gamma` times the reciprocal square root of the running variance plus `1e-5`. -/
def scale (gamma rv : FVec Ideal S128 .f32) (j : Fin 128) : EReal :=
  gamma (ix1 j) * Ideal.rsqrt (rv (ix1 j) + Ideal.ofBits .f32 0x3727C5AC#32)

/-- The folded weights: the left half of `W1` transposed, each column times its scale. -/
theorem v9_apply (c : Dev nD) (k j : Fin 128) :
    V m c main_v9 (ix2 k j)
      = aW1 m c (ix2 j (⟨k.val, by omega⟩ : Fin 256)) * scale (aGamma m c) (aVar m c) j := by
  unfold V scale
  after_reads_at

/-- The right half of `W1`, transposed. -/
theorem v10_apply (c : Dev nD) (k j : Fin 128) :
    V m c main_v10 (ix2 k j) = aW1 m c (ix2 j (⟨128 + k.val, by omega⟩ : Fin 256)) := by
  unfold V
  after_reads_at

/-- `W2`, transposed. -/
theorem v11_apply (c : Dev nD) (l k : Fin 128) :
    V m c main_v11 (ix2 l k) = aW2 m c (ix2 k l) := by
  unfold V
  after_reads_at

/-- Row 0 of the parameter block: b1. -/
theorem v21_row0 (c : Dev nD) (j : Fin 128) : V m c main_v21 (ix2 (0 : Fin 8) j) = aB1 m c (ix1 j) := by
  unfold V
  after_reads_at
  rw [StableHlo.unary_result]
  after_reads_at

/-- Row 2 of the parameter block: beta. -/
theorem v21_row2 (c : Dev nD) (j : Fin 128) : V m c main_v21 (ix2 (2 : Fin 8) j) = aBeta m c (ix1 j) := by
  unfold V
  after_reads_at
  rw [StableHlo.unary_result]
  after_reads_at

/-- Row 3 of the parameter block: the running mean. -/
theorem v21_row3 (c : Dev nD) (j : Fin 128) : V m c main_v21 (ix2 (3 : Fin 8) j) = aMean m c (ix1 j) := by
  unfold V
  after_reads_at
  rw [StableHlo.unary_result]
  after_reads_at

/-- Row 5 of the parameter block: b2. -/
theorem v21_row5 (c : Dev nD) (j : Fin 128) : V m c main_v21 (ix2 (5 : Fin 8) j) = aB2 m c (ix1 j) := by
  unfold V
  after_reads_at
  rw [StableHlo.unary_result]
  after_reads_at

/-- Row 6 of the parameter block: the scale. -/
theorem v21_row6 (c : Dev nD) (j : Fin 128) : V m c main_v21 (ix2 (6 : Fin 8) j) = scale (aGamma m c) (aVar m c) j := by
  unfold V scale
  after_reads_at
  rw [StableHlo.unary_result]
  after_reads_at

end Cert.KernelIdeal.Host
-- ==== Proof.Final.lean ====
/-
  Hand-written: the kernel's result array after the run, as one function of the argument arrays (`kernelFn`).
-/
module

public import proofs.«01_k».proof.Proof.Host

@[expose] public section

set_option maxRecDepth 16384

noncomputable section

namespace Cert.KernelIdeal.Final

open Idealize.ShloMosaic Idealize.ShloMosaic.TcCoe Cert.KernelIdeal Cert.KernelIdeal.Gen Cert.KernelIdeal.Block
open Cert.KernelIdeal.Host Idealize.SL.Sem
open Idealize.ShloMosaic.Pipeline (Dat)

variable (m : (ℓ : Loc nD τ sig) → Buf (Elt Ideal) ℓ)

/-- The mean of feature `l` over the 2048 rows of segment `s`, as the kernel takes it. -/
def mean (x : FVec Ideal S32768x128 .f32) (s : Fin 16) (l : Fin 128) : EReal :=
  (∑ r : Fin 2048, x (ix2 (⟨2048 * s.val + r.val, by omega⟩ : Fin 32768) l)) * Ideal.ofBits .f32 0x3A000000#32

/-- The segment's context after the second linear layer's half of `W1`, from its means `mu`. -/
def context (mu : Fin 128 → EReal) (w1 : FVec Ideal S128x256 .f32) (w2 : FVec Ideal S128x128 .f32) (b2 : FVec Ideal S128 .f32)
    (j : Fin 128) : EReal :=
  ∑ k : Fin 128, max ((∑ l : Fin 128, mu l * w2 (ix2 k l)) + b2 (ix1 k)) 0 * w1 (ix2 j (⟨128 + k.val, by omega⟩ : Fin 256))

/-- The kernel's value at row `i`, channel `j`. -/
def kernelFn (x : FVec Ideal S32768x128 .f32) (w1 : FVec Ideal S128x256 .f32) (b1 gamma beta rm rv : FVec Ideal S128 .f32)
    (w2 : FVec Ideal S128x128 .f32) (b2 : FVec Ideal S128 .f32) (i : Fin 32768) (j : Fin 128) : EReal :=
  max ((∑ k : Fin 128, x (ix2 i k) * (w1 (ix2 j (⟨k.val, by omega⟩ : Fin 256)) * scale gamma rv j))
    + ((context (mean x ⟨i.val / 2048, by omega⟩) w1 w2 b2 j + b1 (ix1 j) - rm (ix1 j)) * scale gamma rv j + beta (ix1 j))) 0

/-- The result array as that function of device `c`'s arguments. -/
def result (c : Dev nD) : Buf (Elt Ideal) ((c : Thread nD τ).loc main_v22) := fun i : S32768x128.Idx =>
  kernelFn (aX m c) (aW1 m c) (aB1 m c) (aGamma m c) (aBeta m c) (aMean m c) (aVar m c) (aW2 m c) (aB2 m c) (i 0) (i 1)

/-- The block of `x` at a point, at its array type. -/
abbrev bX (c : Dev nD) (t : Fin cfg0.N) : FVec Ideal S16384x128 .f32 := iblk m c 0 t

/-- The block of the scaled left half of `W1` at a point, at its array type. -/
abbrev bW (c : Dev nD) (t : Fin cfg0.N) : FVec Ideal S128x128 .f32 := iblk m c 1 t

/-- The block of `x` at point `t` is rows `16384 t …`. -/
theorem iblk0_apply (c : Dev nD) (t : Fin cfg0.N) (r : Fin 16384) (k : Fin 128) (ht : t.val < 2) :
    (iblk m c 0 t : S16384x128.Idx → EReal) (ix2 r k) = aX m c (ix2 (⟨16384 * t.val + r.val, by omega⟩ : Fin 32768) k) := by
  have e : win0_0.index t 0 * win0_0.size 0 = 16384 * t.val ∧ win0_0.index t 1 * win0_0.size 1 = 0 := by
    rcases fin_N0 t with rfl | rfl <;> decide +kernel
  unfold iblk
  show V m c main_arg1 ((win0_0.blk t).view.emb (ix2 r k)) = _
  rw [V_main_arg1]
  refine congrArg (aX m c) (funext fun a => Fin.ext ?_)
  match a with
  | ⟨0, _⟩ => show win0_0.index t 0 * win0_0.size 0 + 1 * r.val = 16384 * t.val + r.val; rw [e.1]; omega
  | ⟨1, _⟩ => show win0_0.index t 1 * win0_0.size 1 + 1 * k.val = k.val; rw [e.2]; omega

/-- Window 1's block, the scaled left half of `W1`, is its whole array at every point. -/
theorem iblk1_eq (c : Dev nD) (t : Fin cfg0.N) : (iblk m c 1 t : S128x128.Idx → EReal) = V m c main_v9 := by
  have hz : (fun a => win0_1.index t a * main_v9.ty.shape.size a) = fun _ => 0 :=
    funext fun a => by rcases fin_N0 t with rfl | rfl <;> fin_cases a <;> decide +kernel
  exact Memref.read_access_unit_zero (Elt Ideal) main_v9 hz
    (fun a => by rw [congrFun hz a]; exact (Nat.zero_add _).le) (V m c main_v9)

/-- Window 2's block, the right half of `W1`, is its whole array at every point. -/
theorem iblk2_eq (c : Dev nD) (t : Fin cfg0.N) : (iblk m c 2 t : S128x128.Idx → EReal) = V m c main_v10 := by
  have hz : (fun a => win0_2.index t a * main_v10.ty.shape.size a) = fun _ => 0 :=
    funext fun a => by rcases fin_N0 t with rfl | rfl <;> fin_cases a <;> decide +kernel
  exact Memref.read_access_unit_zero (Elt Ideal) main_v10 hz
    (fun a => by rw [congrFun hz a]; exact (Nat.zero_add _).le) (V m c main_v10)

/-- Window 3's block, `W2` transposed, is its whole array at every point. -/
theorem iblk3_eq (c : Dev nD) (t : Fin cfg0.N) : (iblk m c 3 t : S128x128.Idx → EReal) = V m c main_v11 := by
  have hz : (fun a => win0_3.index t a * main_v11.ty.shape.size a) = fun _ => 0 :=
    funext fun a => by rcases fin_N0 t with rfl | rfl <;> fin_cases a <;> decide +kernel
  exact Memref.read_access_unit_zero (Elt Ideal) main_v11 hz
    (fun a => by rw [congrFun hz a]; exact (Nat.zero_add _).le) (V m c main_v11)

/-- Window 4's block, the parameter rows, is its whole array at every point. -/
theorem iblk4_eq (c : Dev nD) (t : Fin cfg0.N) : (iblk m c 4 t : S8x128.Idx → EReal) = V m c main_v21 := by
  have hz : (fun a => win0_4.index t a * main_v21.ty.shape.size a) = fun _ => 0 :=
    funext fun a => by rcases fin_N0 t with rfl | rfl <;> fin_cases a <;> decide +kernel
  exact Memref.read_access_unit_zero (Elt Ideal) main_v21 hz
    (fun a => by rw [congrFun hz a]; exact (Nat.zero_add _).le) (V m c main_v21)

/-- A one-row load of the parameter block reads that row. -/
theorem ld_row (o : Nat) (inb : ∀ a, (![o, 0] : Fin 2 → Nat) a + S1x128.size a ≤ S8x128.size a) (v : FVec Ideal S8x128 .f32)
    (g : Fin 8) (hg : g.val = o) (j : Fin 128) :
    View.ld (Val := Elt Ideal) (e' := .f32) v (Rect.unit (s := S8x128) ![o, 0] S1x128.size inb) (ix2 (0 : Fin 1) j) = v (ix2 g j) := by
  rw [View.ld_unit]
  unfold extractStridedSlice
  refine congrArg v (funext fun a => Fin.ext ?_)
  fin_cases a <;> simp [ix2, hg]

/-- The offsets of the block at point `t`, read at segment `g` of the block. -/
theorem offs_at (c : Dev nD) (t : Fin cfg0.N) (ht : t.val < 2) (g : Fin 8) (j : Fin 128) :
    k0_pay49 (F := Ideal) (iblk m c 0 t) (iblk m c 1 t) (iblk m c 2 t) (iblk m c 3 t) (iblk m c 4 t) (ix2 g j)
      = (context (mean (aX m c) ⟨8 * t.val + g.val, by omega⟩) (aW1 m c) (aW2 m c) (aB2 m c) j + aB1 m c (ix1 j) - aMean m c (ix1 j))
          * scale (aGamma m c) (aVar m c) j + aBeta m c (ix1 j) := by
  have hz : (![0, 0] : Fin 2 → Nat) = fun _ => 0 := funext fun a => by fin_cases a <;> rfl
  have e0 : ∀ (l : Fin 128), sums (iblk m c 0 t : S16384x128.Idx → EReal) (ix2 g l) * Ideal.ofBits .f32 0x3A000000#32
      = mean (aX m c) ⟨8 * t.val + g.val, by omega⟩ l := by
    intro l
    rw [sums_apply]
    unfold mean
    refine congrArg (· * _) (Finset.sum_congr rfl fun r _ => ?_)
    rw [iblk0_apply m c t _ l ht]
    refine congrArg (aX m c) (funext fun a => Fin.ext ?_)
    fin_cases a <;> simp [ix2]; omega
  rw [pay49_eq, View.ld_unit_zero (S := S16384x128) hz, View.ld_unit_zero (S := S128x128) hz, View.ld_unit_zero (S := S128x128) hz]
  rw [offs_apply]
  unfold r0_1 r0_2 r0_3 r0_4 r0_5
  rw [ld_row 0 _ _ 0 rfl, ld_row 2 _ _ 2 rfl, ld_row 3 _ _ 3 rfl, ld_row 6 _ _ 6 rfl]
  unfold context
  rw [iblk2_eq, iblk3_eq, iblk4_eq, v21_row0, v21_row2, v21_row3, v21_row6]
  refine congrArg (fun z : EReal => (z + _ - _) * _ + _) (Finset.sum_congr rfl fun k _ => ?_)
  refine congrArg₂ (fun y z : EReal => max y 0 * z) (congrArg₂ (fun y z : EReal => y + z) (Finset.sum_congr rfl fun l _ => ?_) ?_) ?_
  · exact congrArg₂ (fun y z : EReal => y * z) (e0 l) (v11_apply m c l k)
  · rw [ld_row 5 _ _ 5 rfl]; exact v21_row5 m c k
  · exact v10_apply m c k j

/-- What point `t` writes back is block `t` of the result. -/
theorem flushed_eq (c : Dev nD) (t : Fin cfg0.N) :
    (dats m 0 c).flushed 5 t = ((cfg0.win 5).blk t).view.read (Elt Ideal) (result m c) := by
  have hN := N_0
  have ht : t.val < 2 := by have := t.isLt; have : cfg0.N = 2 := N_0; omega
  have e : win0_5.index t 0 * win0_5.size 0 = 16384 * t.val ∧ win0_5.index t 1 * win0_5.size 1 = 0 := by
    rcases fin_N0 t with rfl | rfl <;> decide +kernel
  rw [Value.flushed5]
  refine funext fun y : S16384x128.Idx => ?_
  obtain ⟨r, j, rfl⟩ : ∃ (r : Fin 16384) (j : Fin 128), y = ix2 r j := ⟨y 0, y 1, eq_ix2 y⟩
  show out0_5 (F := Ideal) (iblk m c 0 t) (iblk m c 1 t) (iblk m c 2 t) (iblk m c 3 t) (iblk m c 4 t) (ix2 r j)
    = result m c ((win0_5.blk t).view.emb (ix2 r j))
  have hy : (win0_5.blk t).view.emb (ix2 r j) = (ix2 (⟨16384 * t.val + r.val, by omega⟩ : Fin 32768) j : S32768x128.Idx) := by
    funext a
    apply Fin.ext
    match a with
    | ⟨0, _⟩ => show win0_5.index t 0 * win0_5.size 0 + 1 * r.val = 16384 * t.val + r.val; rw [e.1]; omega
    | ⟨1, _⟩ => show win0_5.index t 1 * win0_5.size 1 + 1 * j.val = j.val; rw [e.2]; omega
  rw [hy, out_apply]
  unfold blockFn result kernelFn
  rw [show (ix2 r j : S16384x128.Idx) 1 = j from rfl]
  rw [offs_at m c t ht]
  have hs : (⟨8 * t.val + (⟨((ix2 r j : S16384x128.Idx) 0).val / 2048, by have : r.val < 16384 := r.isLt; show r.val / 2048 < 8; omega⟩ : Fin 8).val,
      by have : r.val < 16384 := r.isLt; show 8 * t.val + r.val / 2048 < 16; omega⟩ : Fin 16)
      = ⟨(16384 * t.val + r.val) / 2048, by omega⟩ := by
    apply Fin.ext; show 8 * t.val + r.val / 2048 = (16384 * t.val + r.val) / 2048; omega
  rw [hs]
  have e0 : ∀ k : Fin 128, (bX m c t (ix2 r k) : EReal) * bW m c t (ix2 k j)
      = aX m c (ix2 (⟨16384 * t.val + r.val, by omega⟩ : Fin 32768) k)
        * (aW1 m c (ix2 j (⟨k.val, by omega⟩ : Fin 256)) * scale (aGamma m c) (aVar m c) j) := by
    intro k
    rw [show bX m c t (ix2 r k) = _ from iblk0_apply m c t r k ht, show bW m c t = V m c main_v9 from iblk1_eq m c t, v9_apply]
  refine congrArg (fun z : EReal => max z 0) (congrArg (fun z : EReal => z + _) ?_)
  exact Finset.sum_congr rfl fun k _ => e0 k

/-- An index of the result array is in point `t`'s block when its row is. -/
theorem mem_blk (t : Fin cfg0.N) (i : S32768x128.Idx) :
    i ∈ ((cfg0.win 5).blk t).view.set ↔ 16384 * t.val ≤ (i 0 : Nat) ∧ (i 0 : Nat) < 16384 * t.val + 16384 := by
  show i ∈ ((View.whole main_v22).slice (win0_5.rect t)).set ↔ _
  rw [View.set_slice_whole, Rect.mem_set_unit]
  have h1 : (i 1 : Nat) < 128 := (i 1).isLt
  have e : win0_5.index t 0 * win0_5.size 0 = 16384 * t.val ∧ win0_5.xsize (grid0.coords t) 0 = 16384
      ∧ win0_5.index t 1 * win0_5.size 1 = 0 ∧ win0_5.xsize (grid0.coords t) 1 = 128 := by
    rcases fin_N0 t with rfl | rfl <;> decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The two blocks cover the result array. -/
theorem cover (i : S32768x128.Idx) : ∃ t : Fin cfg0.N, (cfg0.win 5).flush t = true ∧ i ∈ ((cfg0.win 5).blk t).view.set := by
  have h0 : (i 0 : Nat) < 32768 := (i 0).isLt
  have hN : cfg0.N = 2 := N_0
  refine ⟨⟨(i 0 : Nat) / 16384, by omega⟩, flush0_5 _, ?_⟩
  rw [mem_blk]
  dsimp only
  omega

/-- So the result array ends holding `result`. -/
theorem final (c : Dev nD) : (dats m 0 c).arrAt 5 cfg0.N = result m c :=
  (dats m 0 c).arrAt_eq_of_cover 5 (result m c) (fun t _ => flushed_eq m c t) cover

end Cert.KernelIdeal.Final
-- ==== Proof.Seg.lean ====
/-
  Hand-written: the integer side of the reference. Under equal segments (`o j = 2048 (j + 1)`) the segment id of row `i` is
  `i / 2048`, every segment holds 2048 rows, the segment sum is the sum over the segment's rows and the table lookup reads
  row `i / 2048`.
-/
module

public import proofs.«01_k».proof.Proof.Gen.ReferenceIdeal.Read
public import Idealize.ShloMosaic.Lib.Routing.Ops
public import Idealize.ShloMosaic.Lib.Routing.OpsPair
public import Idealize.ShloMosaic.Lib.ReduceAll
public import Idealize.ShloMosaic.Lib.Pointwise
public import Idealize.ShloMosaic.Lib.Pipeline.ValueKit

@[expose] public section

set_option maxRecDepth 16384

noncomputable section

namespace Cert.ReferenceIdeal.Seg

open Idealize.ShloMosaic Idealize.ShloMosaic.TcCoe Cert.ReferenceIdeal Cert.ReferenceIdeal.Gen Cert.ReferenceIdeal.Read
open Idealize.ShloMosaic.StableHlo Idealize.SL.Sem

/-- Equal segments: the offset table ends segment `j` at row `2048 (j + 1)`. -/
def Equal (o : IVec S16 32) : Prop := ∀ j : Fin 16, o (ix1 j) = BitVec.ofNat 32 (2048 * (j.val + 1))

/-- The numbers below `n` that are below `k ≤ n` are `k` in number. -/
theorem count_below (k n : Nat) (h : k ≤ n) (Q : Nat → Prop) [DecidablePred Q] (hQ : ∀ q, Q q ↔ q < k) : Nat.count Q n = k := by
  rw [Nat.count_eq_card_filter_range, show (Finset.range n).filter Q = Finset.range k from ?_, Finset.card_range]
  ext q
  rw [Finset.mem_filter, Finset.mem_range, Finset.mem_range, hQ]
  omega

/-- Row `r` of segment `s`. -/
def row (s : Fin 16) (r : Fin 2048) : Fin 32768 := ⟨2048 * s.val + r.val, by omega⟩

/-- A row of segment `s` is the row its distance from the segment's start names. -/
theorem row_sub (s : Fin 16) (a : Fin 32768) (h : a.val - 2048 * s.val < 2048) (e : a.val / 2048 = s.val) :
    row s ⟨a.val - 2048 * s.val, h⟩ = a := by
  apply Fin.ext
  show 2048 * s.val + (a.val - 2048 * s.val) = a.val
  omega

/-- A sum over the indices that meet `P`, when those are the values of the injection `g`. -/
theorem sum_landing {ι κ : Type} [Fintype ι] [Fintype κ] (P : ι → Prop) [DecidablePred P] (f : ι → EReal) (g : κ → ι)
    (hg : ∀ r r', g r = g r' → r = r') (h : ∀ p, P p ↔ ∃ r, g r = p) : ∑ p ∈ Finset.univ.filter P, f p = ∑ r, f (g r) := by
  symm
  refine Finset.sum_bij (fun r _ => g r) (fun r _ => ?_) (fun r _ r' _ e => hg r r' e) (fun p hp => ?_) (fun r _ => rfl)
  · exact Finset.mem_filter.2 ⟨Finset.mem_univ _, (h _).2 ⟨r, rfl⟩⟩
  · obtain ⟨r, e⟩ := (h p).1 (Finset.mem_filter.1 hp).2
    exact ⟨r, Finset.mem_univ _, e⟩

/-- An adding scatter into zero, at an index: the sum of the updates that land there. -/
theorem scatter_add_apply {s si u : Shape} (d : ScatterDims s si u) (x : FVec Ideal s .f32) (idx : IVec si 32) (upd : FVec Ideal u .f32)
    (i : s.Idx) (hx : x i = (0 : EReal)) :
    (Host.scatterAdd d x idx upd i : EReal) = ∑ k ∈ Finset.univ.filter (fun k => d.resultIdx? k idx = some i), (upd k : EReal) := by
  unfold Host.scatterAdd
  rw [Ideal.hostScatterAdd_def]
  unfold Ideal.hostScatterAdd
  rw [hx, zero_add]

variable (o : IVec S16 32) (ho : Equal o)
include ho

/-- The comparison at row `i` and segment `q`: whether segment `q` has ended. -/
theorem mask_iff (i : Fin 32768) (q : Fin 16) : val_main_v10 (F := Ideal) o (ix2 i q) = 1#1 ↔ 2048 * (q.val + 1) ≤ i.val := by
  rw [val_main_v10_apply, val_main_v8_apply, val_main_v6_apply, val_main_v9_apply, val_main_v7_apply, val_main_v5_apply]
  have e : idx_main_v6 (idx_main_v8 (ix2 i q)) = ix1 q := by
    funext a; match a with | ⟨0, _⟩ => rfl
  rw [e, ho, IntOp.cmpi_sle]
  have hq := q.isLt
  have hi := i.isLt
  rw [Predicate.toInt_ofNat_small _ (by omega)]
  show _ ≤ (BitVec.ofNat 32 i.val).toInt ↔ _
  rw [Predicate.toInt_ofNat_small _ (by omega)]
  omega

/-- The segment id of row `i`. -/
theorem seg (i : Fin 32768) : val_main_v12 (F := Ideal) o (ix1 i) = BitVec.ofNat 32 (i.val / 2048) := by
  have hi := i.isLt
  unfold val_main_v12 val_main_v11
  refine (Routing.reduce_count (by decide) (val_main_v10 (F := Ideal) o) natLt_1_32 reducesTo_S32768x16_S32768_d1 h_S_ i
    (fun q => 2048 * (q + 1) ≤ i.val) (fun q => mask_iff o ho i q)).trans ?_
  rw [count_below (i.val / 2048) 16 (by omega) _ (fun q => by omega)]

/-- The wrapped id: ids are not negative, so it is the id. -/
theorem wrapped (i : Fin 32768) : val_main_call1_v5 (F := Ideal) o (ix2 i (0 : Fin 1)) = BitVec.ofNat 32 (i.val / 2048) := by
  have hi := i.isLt
  rw [val_main_call1_v5_apply, val_main_call1_v4_apply, val_main_call1_v1_apply, val_main_call1_v0_apply, val_main_call1_c_apply]
  have e : idx_main_call1_v5 (ix2 i (0 : Fin 1)) = ix1 i := by
    funext a; match a with | ⟨0, _⟩ => rfl
  rw [e, seg o ho]
  refine Routing.wrap_of_lt _ _ ?_
  rw [BitVec.toNat_ofNat, Nat.mod_eq_of_lt (by omega)]
  omega

/-- Every id is inside the table. -/
theorem inside (p : S32768x1.Idx) : val_main_call1_v11 (F := Ideal) o p = 1#1 := by
  obtain ⟨i, rfl⟩ : ∃ i : Fin 32768, p = ix2 i (0 : Fin 1) :=
    ⟨p 0, by rw [eq_ix2 p]; exact congrArg (ix2 (p 0)) (Subsingleton.elim (α := Fin 1) _ _)⟩
  have hi := i.isLt
  rw [val_main_call1_v11_apply, val_main_call1_v7_apply, val_main_call1_v10_apply, val_main_call1_v6_apply, val_main_call1_c_2_apply,
    val_main_call1_v9_apply, val_main_call1_v8_apply, val_main_call1_c_1_apply, wrapped o ho, IntOp.andi_eq_one, IntOp.cmpi_sge,
    IntOp.cmpi_sle, Predicate.toInt_ofNat_small (i.val / 2048) (by omega)]
  refine ⟨?_, ?_⟩
  · show (0#32 : BitVec 32).toInt ≤ _
    rw [show (0#32 : BitVec 32).toInt = 0 from rfl]; omega
  · rw [show (15#32 : BitVec 32).toInt = 15 from rfl]; omega

/-- The lookup: row `i`, column `k` of the looked-up table is the table's row `i / 2048`. -/
theorem lookup (x1 : FVec Ideal S32768x128 .f32) (x9 : FVec Ideal S128x128 .f32) (x10 : FVec Ideal S128 .f32) (i : Fin 32768) (k : Fin 128) :
    val_main_v25 (F := Ideal) x1 o x9 x10 (ix2 i k)
      = val_main_v24 (F := Ideal) x1 o x9 x10 (ix2 (⟨i.val / 2048, by omega⟩ : Fin 16) k) := by
  rw [val_main_v25_apply, val_main_call1_v14_apply]
  have hm : val_main_call1_v12 (F := Ideal) o (idx_main_call1_v14 (ix2 i k)) = 1#1 := by
    unfold val_main_call1_v12
    exact Host.reduce_andi_one _ _ _ _ _ rfl (inside o ho)
  rw [hm]
  show val_main_call1_v13 (F := Ideal) x1 o x9 x10 (ix2 i k) = _
  unfold val_main_call1_v13
  exact Routing.gather_row gather_S16x128_S32768x1_S32768x128_1_0_n_n_0_1_1128 rfl rfl rfl rfl rfl _ _ i k _ (wrapped o ho i) (by decide)

/-- The number of rows of segment `s`, as a word. -/
theorem count_word (s : Fin 16) : val_main_v3 (F := Ideal) o (ix1 s) = 2048#32 := by
  rw [val_main_v3_apply]
  have hs := s.isLt
  have e : val_main_v2 (F := Ideal) o (ix1 s) = BitVec.ofNat 32 (2048 * s.val) := by
    unfold val_main_v2
    by_cases h0 : s.val = 0
    · refine (concatenate_pair_apply_left 0 (val_main_v0 (F := Ideal)) (val_main_v1 (F := Ideal) o) concatenates_S1_S15_S16_d0 (ix1 s) rfl
        (ix1 (0 : Fin 1)) (fun b => ?_)).trans ?_
      · match b with | ⟨0, _⟩ => exact h0.symm
      · rw [val_main_v0_apply, val_main_c_apply, h0]
    · refine (concatenate_pair_apply_right 0 (val_main_v0 (F := Ideal)) (val_main_v1 (F := Ideal) o) concatenates_S1_S15_S16_d0 (ix1 s) rfl rfl
        (ix1 (⟨s.val - 1, by omega⟩ : Fin 15)) (fun b hb => ?_) ?_).trans ?_
      · match b with | ⟨0, _⟩ => exact absurd rfl hb
      · show s.val - 1 + 1 = s.val; omega
      · rw [val_main_v1_apply]
        refine (congrArg o (?_ : _ = ix1 (⟨s.val - 1, by omega⟩ : Fin 16))).trans ?_
        · funext a; match a with | ⟨0, _⟩ => rfl
        · rw [ho]; exact congrArg (BitVec.ofNat 32) (by show 2048 * (s.val - 1 + 1) = 2048 * s.val; omega)
  rw [e, ho]
  have e2 : BitVec.ofNat 32 (2048 * (s.val + 1)) = 2048#32 + BitVec.ofNat 32 (2048 * s.val) := by
    rw [← BitVec.ofNat_add]; exact congrArg (BitVec.ofNat 32) (by omega)
  show BitVec.ofNat 32 (2048 * (s.val + 1)) - BitVec.ofNat 32 (2048 * s.val) = 2048#32
  rw [e2, BitVec.add_sub_cancel]

/-- The number of rows of segment `s` at a column, as a number. -/
theorem count (s : Fin 16) (j : Fin 128) : val_main_v17 (F := Ideal) o (ix2 s j) = ((2048 : ℝ) : EReal) := by
  rw [val_main_v17_apply, val_main_v16_apply, val_main_v4_apply]
  have e : idx_main_v16 (idx_main_v17 (ix2 s j)) = ix1 s := by
    funext a; match a with | ⟨0, _⟩ => rfl
  rw [e, count_word o ho]
  show (((2048#32 : BitVec 32).toInt : ℝ) : EReal) = _
  rw [show (2048#32 : BitVec 32).toInt = 2048 from rfl]
  norm_num

/-- Row `p` of `x`, at column `q`, is added at row `s`, column `j` exactly when row `p` is in segment `s` and `q = j`. -/
theorem lands (p : Fin 32768) (q : Fin 128) (s : Fin 16) (j : Fin 128) :
    scatter_S16x128_S32768x1_S32768x128_1_0_0_1.resultIdx? (ix2 p q) (val_main_v14 (F := Ideal) o) = some (ix2 s j)
      ↔ p.val / 2048 = s.val ∧ q = j := by
  have hp := p.isLt
  refine (Routing.resultIdx?_ix2 scatter_S16x128_S32768x1_S32768x128_1_0_0_1 (ix2 p q) (val_main_v14 (F := Ideal) o) s j).trans ?_
  have w0 : scatter_S16x128_S32768x1_S32768x128_1_0_0_1.window (ix2 p q) 0 = 0 := by
    unfold ScatterDims.window
    rw [dif_neg (by decide)]
  have w1 : scatter_S16x128_S32768x1_S32768x128_1_0_0_1.window (ix2 p q) 1 = q.val := by
    unfold ScatterDims.window
    rw [dif_pos (by decide)]
    rfl
  have s1 : scatter_S16x128_S32768x1_S32768x128_1_0_0_1.start (ix2 p q) (val_main_v14 (F := Ideal) o) 1 = 0 := by
    unfold ScatterDims.start
    rw [dif_neg (by decide)]
  have s0 : scatter_S16x128_S32768x1_S32768x128_1_0_0_1.start (ix2 p q) (val_main_v14 (F := Ideal) o) 0 = ((p.val / 2048 : Nat) : Int) := by
    unfold ScatterDims.start
    rw [dif_pos (by decide), val_main_v14_apply]
    refine (congrArg (fun z => (val_main_v12 (F := Ideal) o z).toInt) (?_ : _ = ix1 p)).trans ?_
    · funext a; match a with | ⟨0, _⟩ => rfl
    · rw [seg o ho, Predicate.toInt_ofNat_small _ (by omega)]
  rw [w0, w1, s0, s1, Fin.ext_iff]
  omega

/-- The segment sum at segment `s` and column `j`. -/
theorem segment_sum (x1 : FVec Ideal S32768x128 .f32) (s : Fin 16) (j : Fin 128) :
    val_main_v15 (F := Ideal) x1 o (ix2 s j) = ∑ r : Fin 2048, x1 (ix2 (row s r) j) := by
  have hz : val_main_v13 (F := Ideal) (ix2 s j) = (0 : EReal) := by
    rw [val_main_v13_apply, val_main_cst_apply]; exact Ideal.ofBits_zero_f32
  unfold val_main_v15
  refine (scatter_add_apply _ _ _ _ _ hz).trans ?_
  refine sum_landing _ (x1 : S32768x128.Idx → EReal) (fun r : Fin 2048 => ix2 (row s r) j) (fun r r' h => ?_) (fun p => ?_)
  · have h0 : 2048 * s.val + r.val = 2048 * s.val + r'.val := congrArg (fun z : S32768x128.Idx => (z 0).val) h
    apply Fin.ext; omega
  · obtain ⟨a, b, rfl⟩ : ∃ (a : Fin 32768) (b : Fin 128), p = ix2 a b := ⟨p 0, p 1, eq_ix2 p⟩
    refine (lands o ho a b s j).trans ⟨fun h => ⟨⟨a.val - 2048 * s.val, by omega⟩, ?_⟩, fun ⟨r, h⟩ => ⟨?_, ?_⟩⟩
    · obtain ⟨h1, rfl⟩ := h
      exact congrArg (fun z => ix2 z b) (row_sub s a _ h1)
    · have h0 : 2048 * s.val + r.val = a.val := congrArg (fun z : S32768x128.Idx => (z 0).val) h
      have := r.isLt
      omega
    · exact (congrArg (fun z : S32768x128.Idx => z 1) h).symm

end Cert.ReferenceIdeal.Seg
-- ==== Proof.RefValue.lean ====
/-
  Hand-written: the reference's result read at an index, under equal segments (`refFn`).
-/
module

public import proofs.«01_k».proof.Proof.Seg

@[expose] public section

set_option maxRecDepth 16384

noncomputable section

namespace Cert.ReferenceIdeal.RefValue

open Idealize.ShloMosaic Idealize.ShloMosaic.TcCoe Cert.ReferenceIdeal Cert.ReferenceIdeal.Gen Cert.ReferenceIdeal.Read
open Cert.ReferenceIdeal.Seg Idealize.ShloMosaic.StableHlo Idealize.SL.Sem

/-- The mean of feature `l` over segment `s`, as the reference takes it: the sum divided by the number of rows. -/
def mean (x : FVec Ideal S32768x128 .f32) (s : Fin 16) (l : Fin 128) : EReal :=
  Ideal.div (∑ r : Fin 2048, x (ix2 (row s r) l)) ((2048 : ℝ) : EReal)

/-- The segment's hidden vector: its means through the second linear layer and the rectifier. -/
def hidden (mu : Fin 128 → EReal) (w2 : FVec Ideal S128x128 .f32) (b2 : FVec Ideal S128 .f32) (k : Fin 128) : EReal :=
  max ((∑ l : Fin 128, mu l * w2 (ix2 k l)) + b2 (ix1 k)) 0

/-- The reference's value at row `i`, channel `j`. -/
def refFn (x : FVec Ideal S32768x128 .f32) (w1 : FVec Ideal S128x256 .f32) (b1 gamma beta rm rv : FVec Ideal S128 .f32)
    (w2 : FVec Ideal S128x128 .f32) (b2 : FVec Ideal S128 .f32) (i : Fin 32768) (j : Fin 128) : EReal :=
  max (Ideal.div ((∑ k : Fin 128, x (ix2 i k) * w1 (ix2 j (⟨k.val, by omega⟩ : Fin 256)))
      + (∑ k : Fin 128, hidden (mean x ⟨i.val / 2048, by omega⟩) w2 b2 k * w1 (ix2 j (⟨128 + k.val, by omega⟩ : Fin 256)))
      + b1 (ix1 j) - rm (ix1 j)) (Ideal.sqrt (rv (ix1 j) + Ideal.ofBits .f32 0x3727C5AC#32)) * gamma (ix1 j) + beta (ix1 j)) 0

variable (x : FVec Ideal S32768x128 .f32) (o : IVec S16 32) (ho : Equal o)
variable (w1 : FVec Ideal S128x256 .f32) (b1 gamma beta rm rv : FVec Ideal S128 .f32) (w2 : FVec Ideal S128x128 .f32) (b2 : FVec Ideal S128 .f32)
include ho

/-- The means. -/
theorem mean_apply (s : Fin 16) (l : Fin 128) : val_main_v18 (F := Ideal) x o (ix2 s l) = mean x s l := by
  rw [val_main_v18_apply, segment_sum o ho, count o ho]
  rfl

/-- The hidden vectors. -/
theorem hidden_apply (s : Fin 16) (k : Fin 128) : val_main_v24 (F := Ideal) x o w2 b2 (ix2 s k) = hidden (mean x s) w2 b2 k := by
  rw [val_main_v24_apply, val_main_v23_apply, val_main_v20_apply, val_main_v22_apply, val_main_v21_apply, val_main_call0_v0_apply,
    val_main_call0_cst_apply]
  have e : idx_main_v21 (idx_main_v22 (ix2 s k)) = ix1 k := by
    funext a; match a with | ⟨0, _⟩ => rfl
  rw [e]
  refine congrArg₂ (fun y z : EReal => max y z) (congrArg (fun y : EReal => y + b2 (ix1 k)) (Finset.sum_congr rfl fun l _ => ?_)) Ideal.ofBits_zero_f32
  rw [show lidx_main_v20 (ix2 s k) l = ix2 s l from by funext a; match a with | ⟨0, _⟩ => rfl | ⟨1, _⟩ => rfl,
    mean_apply x o ho, val_main_v19_apply]
  exact congrArg (fun z => mean x s l * w2 z) (by funext a; match a with | ⟨0, _⟩ => rfl | ⟨1, _⟩ => rfl)

/-- The left half of a row of the joined features is the row of `x`. -/
theorem cat_left (i : Fin 32768) (k : Fin 128) :
    val_main_v26 (F := Ideal) x o w2 b2 (ix2 i (⟨k.val, by omega⟩ : Fin 256)) = x (ix2 i k) := by
  unfold val_main_v26
  exact concatenate_pair_apply_left 1 x (val_main_v25 (F := Ideal) x o w2 b2) concatenates_S32768x128_S32768x128_S32768x256_d1
    (ix2 i (⟨k.val, by omega⟩ : Fin 256)) rfl (ix2 i k) (fun b => match b with | ⟨0, _⟩ => rfl | ⟨1, _⟩ => rfl)

/-- The right half is the row's segment's hidden vector. -/
theorem cat_right (i : Fin 32768) (k : Fin 128) :
    val_main_v26 (F := Ideal) x o w2 b2 (ix2 i (⟨128 + k.val, by omega⟩ : Fin 256)) = hidden (mean x ⟨i.val / 2048, by omega⟩) w2 b2 k := by
  unfold val_main_v26
  refine (concatenate_pair_apply_right 1 x (val_main_v25 (F := Ideal) x o w2 b2) concatenates_S32768x128_S32768x128_S32768x256_d1
    (ix2 i (⟨128 + k.val, by omega⟩ : Fin 256)) rfl rfl (ix2 i k) (fun b hb => ?_) ?_).trans ?_
  · match b with
    | ⟨0, _⟩ => rfl
    | ⟨1, _⟩ => exact absurd rfl hb
  · show k.val + 128 = 128 + k.val; omega
  · rw [lookup o ho, hidden_apply x o ho]

/-- The first linear layer's products. -/
theorem product_apply (i : Fin 32768) (j : Fin 128) : val_main_v28 (F := Ideal) x o w1 w2 b2 (ix2 i j)
    = (∑ k : Fin 128, x (ix2 i k) * w1 (ix2 j (⟨k.val, by omega⟩ : Fin 256)))
      + ∑ k : Fin 128, hidden (mean x ⟨i.val / 2048, by omega⟩) w2 b2 k * w1 (ix2 j (⟨128 + k.val, by omega⟩ : Fin 256)) := by
  rw [val_main_v28_apply]
  have e : ∀ k : Fin 256, (val_main_v26 (F := Ideal) x o w2 b2 (lidx_main_v28 (ix2 i j) k) : EReal) * val_main_v27 (F := Ideal) w1 (ridx_main_v28 (ix2 i j) k)
      = val_main_v26 (F := Ideal) x o w2 b2 (ix2 i k) * w1 (ix2 j k) := by
    intro k
    rw [show lidx_main_v28 (ix2 i j) k = ix2 i k from by funext a; match a with | ⟨0, _⟩ => rfl | ⟨1, _⟩ => rfl, val_main_v27_apply]
    exact congrArg (fun z => (val_main_v26 (F := Ideal) x o w2 b2 (ix2 i k) : EReal) * w1 z) (by funext a; match a with | ⟨0, _⟩ => rfl | ⟨1, _⟩ => rfl)
  refine (Finset.sum_congr rfl fun k _ => e k).trans ?_
  refine (Fin.sum_univ_add (a := 128) (b := 128) (fun k => (val_main_v26 (F := Ideal) x o w2 b2 (ix2 i k) : EReal) * w1 (ix2 j k))).trans ?_
  refine congrArg₂ (fun y z : EReal => y + z) (Finset.sum_congr rfl fun k _ => ?_) (Finset.sum_congr rfl fun k _ => ?_)
  · exact congrArg (fun z : EReal => z * w1 (ix2 j (⟨k.val, by omega⟩ : Fin 256))) (cat_left x o ho w2 b2 i k)
  · exact congrArg (fun z : EReal => z * w1 (ix2 j (⟨128 + k.val, by omega⟩ : Fin 256))) (cat_right x o ho w2 b2 i k)

/-- The reference's result at an index. -/
theorem ref_apply (i : Fin 32768) (j : Fin 128) : val_main_v47 (F := Ideal) x o w1 b1 gamma beta rm rv w2 b2 (ix2 i j)
    = refFn x w1 b1 gamma beta rm rv w2 b2 i j := by
  rw [val_main_v47_apply, val_main_v46_apply, val_main_v43_apply, val_main_v40_apply, val_main_v34_apply, val_main_v31_apply,
    product_apply x o ho, val_main_v30_apply, val_main_v29_apply, val_main_v33_apply, val_main_v32_apply, val_main_v39_apply,
    val_main_v38_apply, val_main_v37_apply, val_main_v36_apply, val_main_v35_apply, val_main_cst_1_apply, val_main_v42_apply,
    val_main_v41_apply, val_main_v45_apply, val_main_v44_apply, val_main_call2_v0_apply, val_main_call2_cst_apply]
  have e1 : idx_main_v29 (idx_main_v30 (ix2 i j)) = ix1 j := by funext a; match a with | ⟨0, _⟩ => rfl
  have e2 : idx_main_v32 (idx_main_v33 (ix2 i j)) = ix1 j := by funext a; match a with | ⟨0, _⟩ => rfl
  have e3 : idx_main_v38 (idx_main_v39 (ix2 i j)) = ix1 j := by funext a; match a with | ⟨0, _⟩ => rfl
  have e4 : idx_main_v41 (idx_main_v42 (ix2 i j)) = ix1 j := by funext a; match a with | ⟨0, _⟩ => rfl
  have e5 : idx_main_v44 (idx_main_v45 (ix2 i j)) = ix1 j := by funext a; match a with | ⟨0, _⟩ => rfl
  rw [e1, e2, e3, e4, e5]
  unfold refFn
  exact congrArg₂ (fun y z : EReal => max y z) rfl Ideal.ofBits_zero_f32

end Cert.ReferenceIdeal.RefValue
-- ==== Proof.Arith.lean ====
/-
  Hand-written: the extended-real arithmetic of the fold. A finite scale distributes over a finite number plus any extended
  real, so scaling the weights before the product and scaling the product after it agree.
-/
module

public import Idealize.ShloMosaic.PureOps.Ideal
public import Idealize.ShloMosaic.PureOps.Ideal.Laws
public import Mathlib.Data.EReal.Operations
public import Mathlib.Data.EReal.Inv

@[expose] public section

noncomputable section

namespace Cert.Arith

open Idealize.ShloMosaic

/-- An extended real that is a real number. -/
def Finite (x : EReal) : Prop := ∃ r : ℝ, x = (r : EReal)

/-- The f32 pattern of plus infinity. -/
theorem bits_top : Ideal.ofBits .f32 0x7F800000#32 = ⊤ := by simp [Ideal.ofBits, Ideal.ieee]

/-- The f32 pattern the kernel multiplies a segment's sum by: one over 2048. -/
theorem bits_inv : Ideal.ofBits .f32 0x3A000000#32 = ((1 / 2048 : ℝ) : EReal) := by
  simp only [Ideal.ofBits, Ideal.ieee]
  simp
  rw [← EReal.coe_mul]
  norm_num

/-- A magnitude below infinity is a real number's. -/
theorem finite_of_abs (x : EReal) (h : max x (-x) < ⊤) : Finite x := by
  induction x using EReal.rec with
  | bot => simp at h
  | top => simp at h
  | coe r => exact ⟨r, rfl⟩

/-- Dividing by the count 2048 is multiplying by the pattern of its inverse. -/
theorem div_count (z : EReal) : Ideal.div z ((2048 : ℝ) : EReal) = z * Ideal.ofBits .f32 0x3A000000#32 := by
  rw [bits_inv]
  unfold Ideal.div
  rw [if_neg (by norm_cast), ← EReal.coe_inv]
  norm_num

/-- Of a positive `v`, the reciprocal root is a real number, and multiplying by it is dividing by the root. -/
theorem rsqrt_real (v : EReal) (hv : 0 < v) : ∃ r : ℝ, Ideal.rsqrt v = (r : EReal) ∧ ∀ z, Ideal.div z (Ideal.sqrt v) = z * (r : EReal) := by
  induction v using EReal.rec with
  | bot => exact absurd hv (by simp)
  | top =>
    refine ⟨0, rfl, fun z => ?_⟩
    show (if (⊤ : EReal) = 0 then (if 0 < z then ⊤ else ⊥) else z * (⊤ : EReal)⁻¹) = _
    rw [if_neg EReal.top_ne_zero, EReal.inv_top]
    rfl
  | coe a =>
    have ha : 0 < a := by exact_mod_cast hv
    have hs : Real.sqrt a ≠ 0 := (Real.sqrt_pos.2 ha).ne'
    refine ⟨(Real.sqrt a)⁻¹, ?_, fun z => ?_⟩
    · show (if a < 0 then ⊥ else if a = 0 then ⊤ else (((Real.sqrt a)⁻¹ : ℝ) : EReal)) = _
      rw [if_neg (not_lt.2 ha.le), if_neg ha.ne']
    · show Ideal.div z (if a < 0 then ⊥ else ((Real.sqrt a : ℝ) : EReal)) = _
      rw [if_neg (not_lt.2 ha.le)]
      unfold Ideal.div
      rw [if_neg (by exact_mod_cast hs), ← EReal.coe_inv]

/-- A real scale distributes over a real number plus any extended real. -/
theorem add_mul_real (p s : ℝ) (D : EReal) : ((p : EReal) + D) * (s : EReal) = (p : EReal) * s + D * s := by
  induction D using EReal.rec with
  | coe d => norm_cast; ring
  | top =>
    rw [EReal.coe_add_top, ← EReal.coe_mul]
    rcases lt_trichotomy s 0 with h | rfl | h
    · rw [EReal.top_mul_coe_of_neg h, EReal.add_bot]
    · simp
    · rw [EReal.top_mul_coe_of_pos h, EReal.coe_add_top]
  | bot =>
    rw [EReal.add_bot, ← EReal.coe_mul]
    rcases lt_trichotomy s 0 with h | rfl | h
    · rw [EReal.bot_mul_coe_of_neg h, EReal.coe_add_top]
    · simp
    · rw [EReal.bot_mul_coe_of_pos h, EReal.add_bot]

/-- A finite sum of real numbers, among the extended reals. -/
theorem coe_sum {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- Scaling the weights by `g / √v` and adding the scaled offset is scaling the whole pre-activation: with finite inputs,
    weights and `g`, a positive `v` and any other terms. -/
theorem fold_scale {n : Nat} (x w : Fin n → EReal) (g v C b rm beta : EReal) (hx : ∀ k, Finite (x k)) (hw : ∀ k, Finite (w k))
    (hg : Finite g) (hv : 0 < v) :
    max ((∑ k, x k * (w k * (g * Ideal.rsqrt v))) + ((C + b - rm) * (g * Ideal.rsqrt v) + beta)) 0
      = max (Ideal.div ((∑ k, x k * w k) + C + b - rm) (Ideal.sqrt v) * g + beta) 0 := by
  obtain ⟨r, hr, hd⟩ := rsqrt_real v hv
  obtain ⟨γ, rfl⟩ := hg
  choose a ha using hx
  choose u hu using hw
  rw [hr, hd]
  have e1 : ∑ k, x k * w k = ((∑ k, a k * u k : ℝ) : EReal) := by
    rw [← coe_sum]; exact Finset.sum_congr rfl fun k _ => by rw [ha, hu, EReal.coe_mul]
  have e2 : ∑ k, x k * (w k * ((γ : EReal) * (r : EReal))) = ((∑ k, a k * u k : ℝ) : EReal) * ((γ * r : ℝ) : EReal) := by
    rw [← EReal.coe_mul γ r, ← EReal.coe_mul (∑ k, a k * u k) (γ * r), Finset.sum_mul, ← coe_sum]
    exact Finset.sum_congr rfl fun k _ => by rw [ha, hu, ← EReal.coe_mul, ← EReal.coe_mul, mul_assoc]
  have e3 : ((∑ k, a k * u k : ℝ) : EReal) + C + b - rm = ((∑ k, a k * u k : ℝ) : EReal) + (C + b - rm) := by
    rw [sub_eq_add_neg, sub_eq_add_neg, add_assoc, add_assoc, add_assoc]
  have e4 : (r : EReal) * (γ : EReal) = ((γ * r : ℝ) : EReal) := by rw [mul_comm, EReal.coe_mul]
  rw [e1, e2, e3, mul_assoc, e4, add_mul_real, add_assoc, EReal.coe_mul γ r]

end Cert.Arith
-- ==== Proof.Pre.lean ====
/-
  Hand-written: what the precondition `equal_segments` says of the arrays.
-/
module

public import proofs.«01_k».proof.Proof.Gen.Pre_equal_segments
public import proofs.«01_k».proof.Proof.Arith
public import Idealize.ShloMosaic.Lib.ReduceAll
public import Idealize.ShloMosaic.Lib.Affine
public import Idealize.ShloMosaic.Lib.Pointwise

@[expose] public section

noncomputable section

namespace Cert.PreFacts

open Idealize.ShloMosaic Cert.Pre_equal_segments Cert.Arith

/-- A truth value's word is 1 exactly when it is true. -/
theorem bool_word (b : Bool) : BitVec.ofBool b = 1#1 ↔ b = true := by cases b <;> decide

/-- The five facts of the precondition: equal segments, finite features, finite left half of the first weights, finite
    scale, and a positive shifted variance. -/
theorem facts (a0 : FVec Ideal S32768x3 .f32) (x : FVec Ideal S32768x128 .f32) (o : IVec S16 32) (w1 : FVec Ideal S128x256 .f32)
    (b1 gamma beta rm rv : FVec Ideal S128 .f32) (w2 : FVec Ideal S128x128 .f32) (b2 : FVec Ideal S128 .f32)
    (h : fn (F := Ideal) a0 x o w1 b1 gamma beta rm rv w2 b2 = fun _ => 1#1) :
    (∀ j : Fin 16, o (ix1 j) = BitVec.ofNat 32 (2048 * (j.val + 1)))
      ∧ (∀ i : S32768x128.Idx, Finite (x i))
      ∧ (∀ j k : Fin 128, Finite (w1 (ix2 j (⟨k.val, by omega⟩ : Fin 256))))
      ∧ (∀ j : Fin 128, Finite (gamma (ix1 j)))
      ∧ (∀ j : Fin 128, (0 : EReal) < rv (ix1 j) + Ideal.ofBits .f32 0x3727C5AC#32) := by
  haveI : Subsingleton S_.Idx := ⟨fun a b => funext fun k => k.elim0⟩
  have e := congrFun h (fun a => a.elim0)
  dsimp only [fn, fn_part1, andi] at e
  obtain ⟨e, hv⟩ := IntOp.andi_eq_one.1 e
  obtain ⟨e, hg⟩ := IntOp.andi_eq_one.1 e
  obtain ⟨e, hw⟩ := IntOp.andi_eq_one.1 e
  obtain ⟨ho, hx⟩ := IntOp.andi_eq_one.1 e
  have lt_top : ∀ y : EReal, Ideal.cmp .olt (max y (-y)) (Ideal.ofBits .f32 0x7F800000#32) = 1#1 → Finite y := by
    intro y hy
    rw [bits_top] at hy
    refine finite_of_abs y ?_
    exact of_decide_eq_true ((bool_word _).1 hy)
  refine ⟨fun j => ?_, fun i => ?_, fun j k => ?_, fun j => ?_, fun j => ?_⟩
  · have := Host.reduce_andi_all _ _ _ _ _ ho (ix1 j)
    have := IntOp.cmpi_eq.1 this
    rw [this]
    show (BitVec.ofNat 32 j.val + 1#32) * 2048#32 = _
    rw [← BitVec.ofNat_add, ← BitVec.ofNat_mul]
    exact congrArg (BitVec.ofNat 32) (Nat.mul_comm _ _)
  · exact lt_top _ (Host.reduce_andi_all _ _ _ _ _ hx i)
  · have := lt_top _ (Host.reduce_andi_all _ _ _ _ _ hw (ix2 j k))
    refine (congrArg (fun z => Finite (w1 z)) ?_).mp this
    funext a; apply Fin.ext
    match a with
    | ⟨0, _⟩ => exact Nat.zero_add _
    | ⟨1, _⟩ => exact Nat.zero_add _
  · exact lt_top _ (Host.reduce_andi_all _ _ _ _ _ hg (ix1 j))
  · have hj := Host.reduce_andi_all _ _ _ _ _ hv (ix1 j)
    have hj : Ideal.cmp .ogt (rv (ix1 j) + Ideal.ofBits .f32 0x3727C5AC#32 : EReal) (Ideal.ofBits .f32 0x00000000#32) = 1#1 := hj
    rw [Ideal.ofBits_zero_f32] at hj
    exact of_decide_eq_true ((bool_word _).1 hj)

end Cert.PreFacts
-- ==== Proof.Equation.lean ====
/-
  Hand-written: the two programs' values agree (`values_agree`), and with that the claim that the kernel and the reference
  end with equal results.
-/
module

public import proofs.«01_k».proof.Defs
public import proofs.«01_k».proof.Proof.Final
public import proofs.«01_k».proof.Proof.RefValue
public import proofs.«01_k».proof.Proof.Pre
public import proofs.«01_k».proof.Proof.Gen.Pre_equal_segments

@[expose] public section

set_option maxRecDepth 16384

noncomputable section

namespace Cert.Equation

open Idealize.ShloMosaic Idealize.ShloMosaic.TcCoe Cert.Arith Idealize.SL.Sem

/-- The two means of a segment agree: the sum times the pattern of 1/2048, and the sum divided by the count. -/
theorem mean_agree (x : FVec Ideal Cert.KernelIdeal.S32768x128 .f32) (s : Fin 16) :
    Cert.KernelIdeal.Final.mean x s = Cert.ReferenceIdeal.RefValue.mean x s := by
  funext l
  exact (div_count _).symm

/-- At every row and channel the kernel's value is the reference's. -/
theorem values_agree (x : FVec Ideal Cert.KernelIdeal.S32768x128 .f32) (w1 : FVec Ideal Cert.KernelIdeal.S128x256 .f32)
    (b1 gamma beta rm rv : FVec Ideal Cert.KernelIdeal.S128 .f32) (w2 : FVec Ideal Cert.KernelIdeal.S128x128 .f32)
    (b2 : FVec Ideal Cert.KernelIdeal.S128 .f32) (hx : ∀ i : Cert.KernelIdeal.S32768x128.Idx, Finite (x i))
    (hw : ∀ j k : Fin 128, Finite (w1 (ix2 j (⟨k.val, by omega⟩ : Fin 256)))) (hg : ∀ j : Fin 128, Finite (gamma (ix1 j)))
    (hv : ∀ j : Fin 128, (0 : EReal) < rv (ix1 j) + Ideal.ofBits .f32 0x3727C5AC#32) (i : Fin 32768) (j : Fin 128) :
    Cert.KernelIdeal.Final.kernelFn x w1 b1 gamma beta rm rv w2 b2 i j
      = Cert.ReferenceIdeal.RefValue.refFn x w1 b1 gamma beta rm rv w2 b2 i j := by
  unfold Cert.KernelIdeal.Final.kernelFn Cert.KernelIdeal.Final.context
  rw [mean_agree]
  exact fold_scale (fun k : Fin 128 => x (ix2 i k)) (fun k : Fin 128 => w1 (ix2 j (⟨k.val, by omega⟩ : Fin 256))) (gamma (ix1 j))
    (rv (ix1 j) + Ideal.ofBits .f32 0x3727C5AC#32) _ (b1 (ix1 j)) (rm (ix1 j)) (beta (ix1 j)) (fun k => hx _) (fun k => hw j k) (hg j) (hv j)

/-- From memories that agree on the arguments and meet the precondition, the reference's result array is the kernel's. -/
theorem arrays_agree (m : (ℓ : Loc Cert.KernelIdeal.nD Cert.KernelIdeal.τ Cert.KernelIdeal.sig) → Buf (Elt Ideal) ℓ)
    (hpre : Cert.Pre_KernelIdeal_equal_segments m) (c : Dev Cert.KernelIdeal.nD) :
    Cert.ReferenceIdeal.Read.val_main_v47 (F := Ideal)
        (m (c.tc.loc Cert.KernelIdeal.main_arg1)) (m (c.tc.loc Cert.KernelIdeal.main_arg2)) (m (c.tc.loc Cert.KernelIdeal.main_arg3))
        (m (c.tc.loc Cert.KernelIdeal.main_arg4)) (m (c.tc.loc Cert.KernelIdeal.main_arg5)) (m (c.tc.loc Cert.KernelIdeal.main_arg6))
        (m (c.tc.loc Cert.KernelIdeal.main_arg7)) (m (c.tc.loc Cert.KernelIdeal.main_arg8)) (m (c.tc.loc Cert.KernelIdeal.main_arg9))
        (m (c.tc.loc Cert.KernelIdeal.main_arg10))
      = Cert.KernelIdeal.Final.result m c := by
  obtain ⟨ho, hx, hw, hg, hv⟩ := Cert.PreFacts.facts _ _ _ _ _ _ _ _ _ _ _ (hpre c)
  refine funext fun y : Cert.KernelIdeal.S32768x128.Idx => ?_
  obtain ⟨i, j, rfl⟩ : ∃ (i : Fin 32768) (j : Fin 128), y = ix2 i j := ⟨y 0, y 1, eq_ix2 y⟩
  refine (Cert.ReferenceIdeal.RefValue.ref_apply _ _ ho _ _ _ _ _ _ _ _ i j).trans ?_
  exact (values_agree _ _ _ _ _ _ _ _ _ hx hw hg hv i j).symm

/-- The kernel and the reference, at the extended reals, end with equal result arrays and their arguments kept. -/
theorem algebraic : Cert.algebraic_KernelIdeal_ReferenceIdeal_pre_equal_segments := by
  intro m ρ m' ρ' hpre hagree
  refine ⟨fun c => Cert.KernelIdeal.Final.result m c, ?_, ?_⟩
  · exact (θ_run Cert.KernelIdeal.defs _ _).mono
      (fun _ h c => ⟨(h c).1.trans (Cert.KernelIdeal.Final.final m c), (h c).2⟩) (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨_, h1, h2, h3, h4, h5, h6, h7, h8, h9, h10⟩ := hagree c
    refine (Cert.ReferenceIdeal.Read.val_main_v47_eq m' c).trans ?_
    rw [h1, h2, h3, h4, h5, h6, h7, h8, h9, h10]
    exact arrays_agree m hpre c

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_equal_segments
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frame_reference : Cert.quiescent_ReferenceIdeal := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

/-- The same frame from memories that meet `equal_segments`. -/
theorem frame_reference_pre : Cert.quiescent_ReferenceIdeal_pre_equal_segments := fun m ρ _ => frame_reference m ρ trivial

/-- The claims: the frames of the three programs, the idealized kernel's being the kernel's own text, and the equality of
    the idealized kernel's result with the reference's under `equal_segments`. -/
theorem claim : Cert.Claim := ⟨Cert.Kernel.Gen.facts, Cert.KernelIdeal.Gen.facts, Cert.ReferenceIdeal.Gen.facts, Cert.Pre_equal_segments.Gen.facts,
  fun m ρ _ => Cert.Kernel.Gen.frame m ρ, fun m ρ _ => Cert.KernelIdeal.Gen.frame m ρ, fun m ρ _ => Cert.KernelIdeal.Gen.frame m ρ,
  frame_reference, frame_reference_pre, trivial, Cert.Equation.algebraic⟩

end Cert.Proof

end
